-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rays_in_order [hPre_rays_in_order : Cert.Pre_rays_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_rays_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_rays_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_rays_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rays_in_order [hPre_rays_in_order : Cert.Pre_rays_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rays_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_rays_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_rays_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rays_in_order [hKernelIdeal : Cert.KernelIdeal.Facts] [hPre_rays_in_order : Cert.Pre_rays_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rays_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rays_in_order [hReferenceIdeal : Cert.ReferenceIdeal.Facts] [hPre_rays_in_order : Cert.Pre_rays_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rays_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rays_in_order [hKernelIdeal : Cert.KernelIdeal.Facts] [hReferenceIdeal : Cert.ReferenceIdeal.Facts] [hPre_rays_in_order : Cert.Pre_rays_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rays_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rays_in_order : Cert.Pre_rays_in_order.Facts),
    quiescent_Kernel (hKernel := hKernel)
    ∧ quiescent_KernelIdeal (hKernelIdeal := hKernelIdeal)
    ∧ quiescent_KernelIdeal_pre_rays_in_order (hKernelIdeal := hKernelIdeal) (hPre_rays_in_order := hPre_rays_in_order)
    ∧ quiescent_ReferenceIdeal (hReferenceIdeal := hReferenceIdeal)
    ∧ quiescent_ReferenceIdeal_pre_rays_in_order (hReferenceIdeal := hReferenceIdeal) (hPre_rays_in_order := hPre_rays_in_order)
    ∧ preserves_Kernel_KernelIdeal
    ∧ algebraic_KernelIdeal_ReferenceIdeal_pre_rays_in_order (hKernelIdeal := hKernelIdeal) (hReferenceIdeal := hReferenceIdeal) (hPre_rays_in_order := hPre_rays_in_order)
-- ==== Pre_rays_in_order.lean ====
abbrev S262144x32 : Shape := ⟨2, ![262144, 32]⟩
abbrev S262144 : Shape := ⟨1, ![262144]⟩
abbrev S_ : Shape := ⟨0, ![]⟩
abbrev S262143 : Shape := ⟨1, ![262143]⟩

class Facts : Prop where
  bcast_S_S262144 : S_.BroadcastsInDim S262144 (![] : Fin 0 → Fin S262144.rank)
  slices_S262144_S262143_0 : S262144.Slices ![0] S262143
  slices_S262144_S262143_1 : S262144.Slices ![1] S262143
  bcast_S_S262144x32 : S_.BroadcastsInDim S262144x32 (![] : Fin 0 → Fin S262144x32.rank)

variable [Facts]

def fn {F : FTy → Type} [FloatOps F] (main_arg0 : FVec F S262144x32 .f32) (main_arg1 : IVec S262144 32) : IVec S262144 1 × IVec S262143 1 × IVec S262144x32 1 :=
  let main_c : IVec S_ 32 := constantI S_ 32 0#32
  let main_v0 : IVec S262144 32 := broadcastInDim S262144 ![] bcast_S_S262144 main_c
  let main_v1 : IVec S262144 1 := cmpi .sge main_arg1 main_v0
  let main_c_0 : IVec S_ 32 := constantI S_ 32 4096#32
  let main_v2 : IVec S262144 32 := broadcastInDim S262144 ![] bcast_S_S262144 main_c_0
  let main_v3 : IVec S262144 1 := cmpi .slt main_arg1 main_v2
  let main_v4 : IVec S262144 1 := andi main_v1 main_v3
  let main_v5 : IVec S262143 32 := (extractStridedSlice S262143 ![0] · slices_S262144_S262143_0) main_arg1
  let main_v6 : IVec S262143 32 := (extractStridedSlice S262143 ![1] · slices_S262144_S262143_1) main_arg1
  let main_v7 : IVec S262143 1 := cmpi .sle main_v5 main_v6
  let main_v8 : FVec F S262144x32 .f32 := Host.absf main_arg0
  let main_cst : FVec F S_ .f32 := constant S_ .f32 0x7F800000#32
  let main_v9 : FVec F S262144x32 .f32 := broadcastInDim S262144x32 ![] bcast_S_S262144x32 main_cst
  let main_v10 : IVec S262144x32 1 := cmpf .olt main_v8 main_v9
  (main_v4, main_v7, main_v10)
-- ==== Kernel.lean ====
abbrev S262144x32 : Shape := ⟨2, ![262144, 32]⟩
abbrev S262144 : Shape := ⟨1, ![262144]⟩
abbrev S1024x1x256 : Shape := ⟨3, ![1024, 1, 256]⟩
abbrev S4096x32 : Shape := ⟨2, ![4096, 32]⟩
abbrev S256x32 : Shape := ⟨2, ![256, 32]⟩
abbrev S1x1x256 : Shape := ⟨3, ![1, 1, 256]⟩
abbrev S1x32 : Shape := ⟨2, ![1, 32]⟩
abbrev S1 : Shape := ⟨1, ![1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4096x256 : Shape := ⟨2, ![4096, 256]⟩

abbrev nBuf : Space → Nat
  | .hbm => 5
  | .vmem => 8
  | .smem => 1
  | _ => 0

abbrev bufTy : (tb : Table) → Fin (tcTables nBuf tb) → BufTy
  | .hbm, ⟨0, _⟩ => ⟨S262144x32, .f32⟩
  | .hbm, ⟨1, _⟩ => ⟨S262144, .i32⟩
  | .hbm, ⟨2, _⟩ => ⟨S1024x1x256, .i32⟩
  | .hbm, ⟨3, _⟩ => ⟨S4096x32, .f32⟩
  | .hbm, ⟨4, _⟩ => ⟨S262144x32, .f32⟩
  | .local _ .vmem, ⟨0, _⟩ => ⟨S256x32, .f32⟩
  | .local _ .vmem, ⟨1, _⟩ => ⟨S256x32, .f32⟩
  | .local _ .vmem, ⟨2, _⟩ => ⟨S1x1x256, .i32⟩
  | .local _ .vmem, ⟨3, _⟩ => ⟨S1x1x256, .i32⟩
  | .local _ .vmem, ⟨4, _⟩ => ⟨S4096x32, .f32⟩
  | .local _ .vmem, ⟨5, _⟩ => ⟨S256x32, .f32⟩
  | .local _ .vmem, ⟨6, _⟩ => ⟨S256x32, .f32⟩
  | .local _ .vmem, ⟨7, _⟩ => ⟨S1x32, .f32⟩
  | .local _ .smem, ⟨0, _⟩ => ⟨S1, .i32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S262144x32 : Shape := ⟨2, ![262144, 32]⟩
abbrev S262144 : Shape := ⟨1, ![262144]⟩
abbrev S_ : Shape := ⟨0, ![]⟩
abbrev S4096x32 : Shape := ⟨2, ![4096, 32]⟩
abbrev S262144x1 : Shape := ⟨2, ![262144, 1]⟩
abbrev S1x32 : Shape := ⟨2, ![1, 32]⟩
abbrev S262143x32 : Shape := ⟨2, ![262143, 32]⟩
abbrev S4096 : Shape := ⟨1, ![4096]⟩
abbrev S4096x1 : Shape := ⟨2, ![4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S262144x32, .f32⟩
  | .hbm, ⟨1, _⟩ => ⟨S262144, .i32⟩
  | .hbm, ⟨2, _⟩ => ⟨S_, .f32⟩
  | .hbm, ⟨3, _⟩ => ⟨S4096x32, .f32⟩
  | .hbm, ⟨4, _⟩ => ⟨S262144x1, .i32⟩
  | .hbm, ⟨5, _⟩ => ⟨S4096x32, .f32⟩
  | .hbm, ⟨6, _⟩ => ⟨S_, .f32⟩
  | .hbm, ⟨7, _⟩ => ⟨S_, .f32⟩
  | .hbm, ⟨8, _⟩ => ⟨S262144x32, .f32⟩
  | .hbm, ⟨9, _⟩ => ⟨S_, .f32⟩
  | .hbm, ⟨10, _⟩ => ⟨S1x32, .f32⟩
  | .hbm, ⟨11, _⟩ => ⟨S262143x32, .f32⟩
  | .hbm, ⟨12, _⟩ => ⟨S262144x32, .f32⟩
  | .hbm, ⟨13, _⟩ => ⟨S262144, .i32⟩
  | .hbm, ⟨14, _⟩ => ⟨S_, .i32⟩
  | .hbm, ⟨15, _⟩ => ⟨S4096, .i32⟩
  | .hbm, ⟨16, _⟩ => ⟨S262144x1, .i32⟩
  | .hbm, ⟨17, _⟩ => ⟨S4096, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S4096x32, .f32⟩
  | .hbm, ⟨35, _⟩ => ⟨S_, .i32⟩
  | .hbm, ⟨36, _⟩ => ⟨S262144, .i32⟩
  | .hbm, ⟨37, _⟩ => ⟨S262144, .i1⟩
  | .hbm, ⟨38, _⟩ => ⟨S_, .i32⟩
  | .hbm, ⟨39, _⟩ => ⟨S262144, .i32⟩
  | .hbm, ⟨40, _⟩ => ⟨S262144, .i32⟩
  | .hbm, ⟨41, _⟩ => ⟨S262144, .i32⟩
  | .hbm, ⟨42, _⟩ => ⟨S262144x1, .i32⟩
  | .hbm, ⟨43, _⟩ => ⟨S262144x32, .f32⟩
  | .hbm, ⟨44, _⟩ => ⟨S262144x32, .f32⟩
  | _, _ => ⟨S262144x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_cst : Ref sig .tc := ⟨.hbm, 6, rfl⟩
abbrev main_call0_call0_v0 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_c_2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Proof.Ray.Sums.lean ====
/-
  Sums along a row of samples that are grouped by ray, in plain terms: `w j` is the ray word of sample `j` and `x j`
  its value, in any commutative monoid. `run` is the running sum inside a ray, `upTo` the sum of one ray's samples
  among the first `n`. When the ray words never decrease, a ray's samples stand side by side: a running sum that
  enters a block adds the running sum just before the block exactly when the ray is still the same (`run_block`), and
  a prefix sum splits at the first sample of the ray (`prefix_split`).
-/
module

public import Mathlib.Algebra.BigOperators.Fin
public import Mathlib.Algebra.BigOperators.Intervals
public import Mathlib.Tactic.Ring

@[expose] public section

namespace Cert.Ray

open Finset

variable {M : Type} [AddCommMonoid M]

/-- The sum of the values of the samples up to `i` that share `i`'s ray. -/
def run (w : ℕ → BitVec 32) (x : ℕ → M) (i : ℕ) : M := ∑ j ∈ range (i + 1), if w j = w i then x j else 0

/-- The sum of the values of the samples of ray `r` among the first `n`. -/
def upTo (w : ℕ → BitVec 32) (x : ℕ → M) (r : BitVec 32) (n : ℕ) : M := ∑ j ∈ range n, if w j = r then x j else 0

/-- The ray words of the first `n` samples do not decrease. -/
def Sorted (w : ℕ → BitVec 32) (n : ℕ) : Prop := ∀ i j, i ≤ j → j < n → (w i).toNat ≤ (w j).toNat

/-- Between two samples of one ray there is only that ray. -/
theorem Sorted.between {w : ℕ → BitVec 32} {n : ℕ} (h : Sorted w n) {f j i : ℕ} (hf : f ≤ j) (hj : j ≤ i) (hi : i < n)
    (e : w f = w i) : w j = w i := by
  have h1 := h f j hf (by omega)
  have h2 := h j i hj hi
  rw [e] at h1
  exact BitVec.eq_of_toNat_eq (by omega)

/-- The inner sum of a block, written over the whole block with the position as a second condition. -/
theorem inner_eq (P : ℕ → Prop) [DecidablePred P] (y : ℕ → M) (B p : ℕ) (hp : p < B) :
    (∑ q : Fin B, if P q.val ∧ q.val ≤ p then y q.val else 0) = ∑ q ∈ range (p + 1), if P q then y q else 0 := by
  rw [Fin.sum_univ_eq_sum_range (fun q => if P q ∧ q ≤ p then y q else 0) B]
  symm
  have hsub : range (p + 1) ⊆ range B := range_subset_range.2 (by omega)
  rw [← sum_subset (f := fun q => if P q ∧ q ≤ p then y q else 0) hsub]
  · refine sum_congr rfl fun q hq => ?_
    have : q ≤ p := by have := mem_range.1 hq; omega
    simp [this]
  · intro q _ hq
    have : ¬ q ≤ p := by intro h; exact hq (mem_range.2 (by omega))
    simp [this]

/-- In the first block the running sum is the block's own. -/
theorem run_first (w : ℕ → BitVec 32) (x : ℕ → M) (B p : ℕ) (hp : p < B) :
    run w x p = ∑ q : Fin B, if w q.val = w p ∧ q.val ≤ p then x q.val else 0 := by
  rw [inner_eq (fun q => w q = w p) x B p hp]
  rfl

/-- In a later block, starting at sample `s`, the running sum is the block's own plus, where the ray is the one of
    sample `s - 1`, the running sum there. -/
theorem run_block {w : ℕ → BitVec 32} {n : ℕ} (hw : Sorted w n) (x : ℕ → M) (s B p : ℕ) (hs : 0 < s) (hp : p < B)
    (hn : s + p < n) :
    run w x (s + p) = (∑ q : Fin B, if w (s + q.val) = w (s + p) ∧ q.val ≤ p then x (s + q.val) else 0)
      + if w (s + p) = w (s - 1) then run w x (s - 1) else 0 := by
  rw [inner_eq (fun q => w (s + q) = w (s + p)) (fun q => x (s + q)) B p hp]
  unfold run
  rw [show s + p + 1 = s + (p + 1) by omega, sum_range_add, show s - 1 + 1 = s by omega, add_comm]
  congr 1
  split
  · next e => rw [e]
  · next e =>
    refine sum_eq_zero fun j hj => if_neg fun h => e ?_
    have hj' := mem_range.1 hj
    have := hw.between (f := j) (j := s - 1) (i := s + p) (by omega) (by omega) hn h
    exact this.symm

/-- The sum of a ray's samples grows block by block. -/
theorem upTo_block (w : ℕ → BitVec 32) (x : ℕ → M) (r : BitVec 32) (s B : ℕ) :
    upTo w x r (s + B) = upTo w x r s + ∑ q : Fin B, if w (s + q.val) = r then x (s + q.val) else 0 := by
  unfold upTo
  rw [sum_range_add, Fin.sum_univ_eq_sum_range (fun q => if w (s + q) = r then x (s + q) else 0) B]

/-- No samples, no sum. -/
theorem upTo_zero (w : ℕ → BitVec 32) (x : ℕ → M) (r : BitVec 32) : upTo w x r 0 = 0 := rfl

/-- The prefix sum up to sample `i` is the prefix sum before the first sample `f` of `i`'s ray, plus the running sum. -/
theorem prefix_split {w : ℕ → BitVec 32} {n : ℕ} (hw : Sorted w n) (x : ℕ → M) (f i : ℕ) (hfi : f ≤ i) (hi : i < n)
    (e : w f = w i) (hmin : ∀ j < f, w j ≠ w i) :
    ∑ j ∈ range (i + 1), x j = ∑ j ∈ range f, x j + run w x i := by
  obtain ⟨d, rfl⟩ : ∃ d, i = f + d := ⟨i - f, by omega⟩
  unfold run
  rw [show f + d + 1 = f + (d + 1) by omega, sum_range_add _ f (d + 1), sum_range_add _ f (d + 1),
    sum_eq_zero (s := range f) (fun j hj => if_neg (hmin j (mem_range.1 hj))), zero_add]
  congr 1
  refine sum_congr rfl fun j hj => ?_
  have := mem_range.1 hj
  rw [if_pos (hw.between (f := f) (j := f + j) (by omega) (by omega) hi e)]

/-- A sample's ray has a first sample. -/
theorem exists_first (w : ℕ → BitVec 32) (i : ℕ) : ∃ f, f ≤ i ∧ w f = w i ∧ ∀ j < f, w j ≠ w i := by
  classical
  have h : ∃ f, w f = w i := ⟨i, rfl⟩
  exact ⟨Nat.find h, Nat.find_min' h rfl, Nat.find_spec h, fun j hj => Nat.find_min h hj⟩

/-- Neighbours in order make the whole row sorted. -/
theorem sorted_of_step {w : ℕ → BitVec 32} {n : ℕ} (h : ∀ i, i + 1 < n → (w i).toNat ≤ (w (i + 1)).toNat) : Sorted w n := by
  intro i j hij
  induction j, hij using Nat.le_induction with
  | base => intro _; exact le_rfl
  | succ j hj ih => intro hn; exact (ih (by omega)).trans (h j hn)

end Cert.Ray

end
-- ==== Proof.Ray.Arrays.lean ====
/-
  The two arguments as rows of samples: `xs X d j` is sample `j`'s value in column `d`, `ws I j` its ray word (zero past
  the last sample).
-/
module

public import Idealize.ShloMosaic.Lib.ValueIdx
public import Idealize.ShloMosaic.PureOps.Ideal

@[expose] public section

noncomputable section

open Idealize.ShloMosaic Idealize.ShloMosaic.ValueIdx

namespace Cert.Ray

/-- Sample `j`'s value in column `d`. -/
def xs (X : (⟨2, ![262144, 32]⟩ : Shape).Idx → EReal) (d : Fin 32) (j : ℕ) : EReal :=
  if h : j < 262144 then X (ix2 ⟨j, h⟩ d) else 0

/-- Sample `j`'s ray word. -/
def ws (I : (⟨1, ![262144]⟩ : Shape).Idx → BitVec 32) (j : ℕ) : BitVec 32 :=
  if h : j < 262144 then I (ix1 ⟨j, h⟩) else 0

theorem xs_of_lt (X : (⟨2, ![262144, 32]⟩ : Shape).Idx → EReal) (d : Fin 32) {j : ℕ} (h : j < 262144) :
    xs X d j = X (ix2 ⟨j, h⟩ d) := dif_pos h

theorem ws_of_lt (I : (⟨1, ![262144]⟩ : Shape).Idx → BitVec 32) {j : ℕ} (h : j < 262144) :
    ws I j = I (ix1 ⟨j, h⟩) := dif_pos h

theorem xs_fin (X : (⟨2, ![262144, 32]⟩ : Shape).Idx → EReal) (d : Fin 32) (i : Fin 262144) :
    xs X d i.val = X (ix2 i d) := dif_pos i.isLt

theorem ws_fin (I : (⟨1, ![262144]⟩ : Shape).Idx → BitVec 32) (i : Fin 262144) : ws I i.val = I (ix1 i) := dif_pos i.isLt

end Cert.Ray

end
-- ==== Proof.Ray.Steps.lean ====
/-
  What one grid point of the scan kernel leaves behind, as the kernel's own payloads of what it found: case `A` is the
  first point, which starts from a zero carry, the ray word 4294967295 and a zero table of ray sums; case `B` is every
  later point.
-/
module

public import proofs.«01_k».proof.Proof.Gen.KernelIdeal.Value
public import Idealize.ShloMosaic.Lib.Pipeline.Value
public import Idealize.ShloMosaic.Lib.ValueIdx
public import Idealize.ShloMosaic.Lib.Tactic

@[expose] public section

noncomputable section

open Idealize.ShloMosaic Idealize.ShloMosaic.TcCoe Idealize.SL.Sem Idealize.ShloMosaic.ValueIdx

namespace Cert.Ray.Kernel

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The one word of a one-word buffer, however its index is written. -/
theorem ld_one (s1 : Vec F S1 .i32) (h) (j) : View.ld s1 (Rect.unit (s := S1) ![0] ![1] h) j = s1 (ix1 0) :=
  congrArg s1 (funext fun a => by
    match a with
    | ⟨0, _⟩ => exact Subsingleton.elim (α := Fin 1) _ _)

variable (c : Dev nD) (i : grid0.Coords) (a1 : Memref sig .tc .vmem S256x32 .f32) (h1 : a1.IsWhole)
  (a2 : Memref sig .tc .vmem S1x1x256 .i32) (h2 : a2.IsWhole) (a3 : Memref sig .tc .vmem S4096x32 .f32) (h3 : a3.IsWhole)
  (a4 : Memref sig .tc .vmem S256x32 .f32) (h4 : a4.IsWhole) (a5 : Memref sig .tc .vmem S1x32 .f32) (h5 : a5.IsWhole)
  (a6 : Memref sig .tc .smem S1 .i32) (h6 : a6.IsWhole)
  (x0 : Vec F S256x32 .f32) (x1 : Vec F S1x1x256 .i32)

section B
variable (hc : ¬cond0_0 i) (xo : Vec F S4096x32 .f32) (s0 : Vec F S1x32 .f32) (s1 : Vec F S1 .i32)

/-- A later point's block of running sums. -/
theorem out_B3 : out0_B_3 c i a1 h1 a2 h2 a3 h3 a4 h4 a5 h5 a6 h6 hc x0 x1 xo s0 s1 = k0_pay7 x1 x0 (s1 (ix1 0)) s0 := by
  unfold out0_B_3
  rw [View.read_writes_eq_canon _ _ _ (cover0_B_3 c i a1 h1 a2 h2 a3 h3 a4 h4 a5 h5 a6 h6 hc x0 x1 xo s0 s1)]
  unfold kernelRun0_B
  dsimp only
  sl_unfold_words
  rw [View.canon_unit_zero hz2]
  simp only [View.readAt_eq_ld, h1.read_unread, h2.read_unread, h3.read_unread, h5.read_unread, h6.read_unread,
    View.ld_unit_zero (S := S256x32) hz2, View.ld_unit_zero (S := S1x32) hz2, View.ld_unit_zero (S := S4096x32) hz2,
    View.ld_unit_zero (S := S1x1x256) hz3, View.ld_unit_zero (S := S1) hz1]
  rw [ld_one]

theorem out_B2 : out0_B_2 c i a1 h1 a2 h2 a3 h3 a4 h4 a5 h5 a6 h6 hc x0 x1 xo s0 s1 = k0_pay8 x1 x0 xo := by
  unfold out0_B_2
  rw [View.read_writes_eq_canon _ _ _ (cover0_B_2 c i a1 h1 a2 h2 a3 h3 a4 h4 a5 h5 a6 h6 hc x0 x1 xo s0 s1)]
  unfold kernelRun0_B
  dsimp only
  sl_unfold_words
  rw [View.canon_unit_zero hz2]
  simp only [View.readAt_eq_ld, h1.read_unread, h2.read_unread, h3.read_unread, h5.read_unread, h6.read_unread,
    View.ld_unit_zero (S := S256x32) hz2, View.ld_unit_zero (S := S1x32) hz2, View.ld_unit_zero (S := S4096x32) hz2,
    View.ld_unit_zero (S := S1x1x256) hz3, View.ld_unit_zero (S := S1) hz1]

theorem sout_B0 : sout0_B_0 c i a1 h1 a2 h2 a3 h3 a4 h4 a5 h5 a6 h6 hc x0 x1 xo s0 s1 = k0_pay1 (k0_pay7 x1 x0 (s1 (ix1 0)) s0) := by
  unfold sout0_B_0
  rw [View.read_writes_eq_canon _ _ _ (scover0_B_0 c i a1 h1 a2 h2 a3 h3 a4 h4 a5 h5 a6 h6 hc x0 x1 xo s0 s1)]
  unfold kernelRun0_B
  dsimp only
  sl_unfold_words
  rw [View.canon_unit_zero hz2]
  simp only [View.readAt_eq_ld, h1.read_unread, h2.read_unread, h3.read_unread, h5.read_unread, h6.read_unread,
    View.ld_unit_zero (S := S256x32) hz2, View.ld_unit_zero (S := S1x32) hz2, View.ld_unit_zero (S := S4096x32) hz2,
    View.ld_unit_zero (S := S1x1x256) hz3, View.ld_unit_zero (S := S1) hz1]
  rw [ld_one]

theorem sout_B1 : sout0_B_1 c i a1 h1 a2 h2 a3 h3 a4 h4 a5 h5 a6 h6 hc x0 x1 xo s0 s1 =
    fun _ => extractAt ![0] (k0_pay2 (k0_pay3 x1)) inpos_S1_p0 := by
  unfold sout0_B_1
  rw [View.read_writes_eq_canon _ _ _ (scover0_B_1 c i a1 h1 a2 h2 a3 h3 a4 h4 a5 h5 a6 h6 hc x0 x1 xo s0 s1)]
  unfold kernelRun0_B
  dsimp only
  sl_unfold_words
  rw [View.canon_unit_zero hz1]
  simp only [View.readAt_eq_ld, h1.read_unread, h2.read_unread, h3.read_unread, h5.read_unread, h6.read_unread,
    View.ld_unit_zero (S := S256x32) hz2, View.ld_unit_zero (S := S1x32) hz2, View.ld_unit_zero (S := S4096x32) hz2,
    View.ld_unit_zero (S := S1x1x256) hz3, View.ld_unit_zero (S := S1) hz1]
  rfl
end B

section A
variable (hc : cond0_0 i)

theorem out_A3 : out0_A_3 c i a1 h1 a2 h2 a3 h3 a4 h4 a5 h5 a6 h6 hc x0 x1 = k0_pay7 x1 x0 4294967295#32 k0_pay4 := by
  unfold out0_A_3
  rw [View.read_writes_eq_canon _ _ _ (cover0_A_3 c i a1 h1 a2 h2 a3 h3 a4 h4 a5 h5 a6 h6 hc x0 x1)]
  unfold kernelRun0_A
  dsimp only
  sl_unfold_words
  rw [View.canon_unit_zero hz2]
  simp only [View.readAt_eq_ld, h1.read_unread, h2.read_unread, View.readCov_unit_zero (S := S1x32) _ hz2,
    View.readCov_unit_zero (S := S4096x32) _ hz2,
    View.readCov_unit_zero (S := S1) _ hz1,
    View.ld_unit_zero (S := S256x32) hz2, View.ld_unit_zero (S := S1x32) hz2, View.ld_unit_zero (S := S4096x32) hz2,
    View.ld_unit_zero (S := S1x1x256) hz3, View.ld_unit_zero (S := S1) hz1]

theorem out_A2 : out0_A_2 c i a1 h1 a2 h2 a3 h3 a4 h4 a5 h5 a6 h6 hc x0 x1 = k0_pay8 x1 x0 k0_pay5 := by
  unfold out0_A_2
  rw [View.read_writes_eq_canon _ _ _ (cover0_A_2 c i a1 h1 a2 h2 a3 h3 a4 h4 a5 h5 a6 h6 hc x0 x1)]
  unfold kernelRun0_A
  dsimp only
  sl_unfold_words
  rw [View.canon_cons_unit_zero (S := S4096x32) hz2, View.readCov_unit_zero (S := S4096x32) _ hz2]
  simp only [View.readAt_eq_ld, h1.read_unread, h2.read_unread,
    View.ld_unit_zero (S := S256x32) hz2, View.ld_unit_zero (S := S1x32) hz2, View.ld_unit_zero (S := S4096x32) hz2,
    View.ld_unit_zero (S := S1x1x256) hz3, View.ld_unit_zero (S := S1) hz1]

theorem sout_A0 : sout0_A_0 c i a1 h1 a2 h2 a3 h3 a4 h4 a5 h5 a6 h6 hc x0 x1 = k0_pay1 (k0_pay7 x1 x0 4294967295#32 k0_pay4) := by
  unfold sout0_A_0
  rw [View.read_writes_eq_canon _ _ _ (scover0_A_0 c i a1 h1 a2 h2 a3 h3 a4 h4 a5 h5 a6 h6 hc x0 x1)]
  unfold kernelRun0_A
  dsimp only
  sl_unfold_words
  rw [View.canon_cons_unit_zero (S := S1x32) hz2]
  simp only [View.readAt_eq_ld, h1.read_unread, h2.read_unread, View.readCov_unit_zero (S := S1x32) _ hz2,
    View.readCov_unit_zero (S := S4096x32) _ hz2,
    View.readCov_unit_zero (S := S1) _ hz1,
    View.ld_unit_zero (S := S256x32) hz2, View.ld_unit_zero (S := S1x32) hz2, View.ld_unit_zero (S := S4096x32) hz2,
    View.ld_unit_zero (S := S1x1x256) hz3, View.ld_unit_zero (S := S1) hz1]

theorem sout_A1 : sout0_A_1 c i a1 h1 a2 h2 a3 h3 a4 h4 a5 h5 a6 h6 hc x0 x1 =
    fun _ => extractAt ![0] (k0_pay2 (k0_pay3 x1)) inpos_S1_p0 := by
  unfold sout0_A_1
  rw [View.read_writes_eq_canon _ _ _ (scover0_A_1 c i a1 h1 a2 h2 a3 h3 a4 h4 a5 h5 a6 h6 hc x0 x1)]
  unfold kernelRun0_A
  dsimp only
  sl_unfold_words
  rw [View.canon_cons_unit_zero (S := S1) hz1]
  simp only [View.readAt_eq_ld, h1.read_unread, h2.read_unread,
    View.ld_unit_zero (S := S256x32) hz2, View.ld_unit_zero (S := S1x32) hz2, View.ld_unit_zero (S := S4096x32) hz2,
    View.ld_unit_zero (S := S1x1x256) hz3, View.ld_unit_zero (S := S1) hz1]
  rfl
end A

end Cert.Ray.Kernel

end
-- ==== Proof.Ray.Payloads.lean ====
/-
  The scan kernel's payloads read at one entry: the block of running sums is the masked sum over the block plus the
  carried row where the ray is still the same, the table of ray sums is what it held plus the block's samples of that ray.
-/
module

public import proofs.«01_k».proof.Proof.Gen.KernelIdeal.Value
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain

@[expose] public section

noncomputable section

open Idealize.ShloMosaic Idealize.ShloMosaic.ValueIdx

namespace Cert.Ray.Kernel

open Cert.KernelIdeal Cert.KernelIdeal.Gen

/-- A product with a condition's bit, widened to a word and read as a number, keeps the other factor or drops it. -/
theorem bit_mul (p : Prop) [Decidable p] (b : BitVec 1) (h : b = BitVec.ofBool (decide p)) (x : EReal) :
    (((BitVec.setWidth 32 b).toInt : ℝ) : EReal) * x = if p then x else 0 := by
  subst h
  by_cases hp : p
  · simp [hp]
  · simp [hp]

/-- Below 2^31 words compare, as signed, the way their numbers do. -/
theorem sle_ofNat (a b : ℕ) (ha : a < 2 ^ 31) (hb : b < 2 ^ 31) :
    (BitVec.ofNat 32 a).sle (BitVec.ofNat 32 b) = decide (a ≤ b) := by
  simp only [BitVec.sle, BitVec.toInt_eq_toNat_cond, BitVec.toNat_ofNat]
  rw [Nat.mod_eq_of_lt (by omega), Nat.mod_eq_of_lt (by omega), if_pos (by omega), if_pos (by omega)]
  simp

/-- A one-column array over many columns reads its own row. -/
theorem bc_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay3_apply {F : FTy → Type} [FloatOps F] (v0 : Vec F S1x1x256 .i32) (q : Fin 256) :
    k0_pay3 v0 (ix1 q) = v0 (ix3 0 0 q) :=
  shapeCast_apply v0 _ _ _ (by
    rw [Shape.rowMajor_val_three, Shape.rowMajor_val_one]
    show (0 * 1 + 0) * 256 + q.val = q.val
    omega)

theorem pay6_apply {F : FTy → Type} [FloatOps F] (v0 : Vec F S1x1x256 .i32) (u : Fin 1) (q : Fin 256) :
    k0_pay6 v0 (ix2 u q) = v0 (ix3 0 0 q) :=
  (shapeCast_a_1a_apply (k0_pay3 v0) shapeCasts_S256_S1x256 u q).trans (pay3_apply v0 q)

/-- The block of running sums at one entry. -/
theorem pay7_apply (v0 : Vec Ideal S1x1x256 .i32) (v2 : Vec Ideal S256x32 .f32) (s : BitVec 32) (cr : Vec Ideal S1x32 .f32)
    (p : Fin 256) (d : Fin 32) : k0_pay7 v0 v2 s cr (ix2 p d) =
      (∑ q : Fin 256, if v0 (ix3 0 0 q) = v0 (ix3 0 0 p) ∧ q ≤ p then v2 (ix2 q d) else 0) +
        if v0 (ix3 0 0 p) = s then cr (ix2 0 d) else 0 := by
  unfold k0_pay7
  dsimp only
  rw [addf_apply]
  congr 1
  · refine (Ideal.matmul_plain_apply (M := 256) (K := 256) (N := 32) none _ _ _ p d).trans ?_
    rw [constant_apply, Ideal.ofBits_zero_f32, zero_add]
    refine Finset.sum_congr rfl fun q _ => ?_
    refine bit_mul _ _ ?_ _
    show IntOp.andi (IntOp.cmpi .eq (broadcastTo S256x256 (shapeCast S256x1 (k0_pay3 v0) shapeCasts_S256_S256x1) broadcasts_S256x1_S256x256 (ix2 p q))
      (broadcastTo S256x256 (k0_pay6 v0) broadcasts_S1x256_S256x256 (ix2 p q)))
      (IntOp.cmpi .sle (iota .tc S256x256 32 [1] iota_S256x256_d1_w32 (ix2 p q)) (iota .tc S256x256 32 [0] iota_S256x256_d0_w32 (ix2 p q))) = _
    rw [bc_col, shapeCast_a_a1_apply, broadcastTo_1b_ab_apply, pay6_apply, pay3_apply, iota_single_apply, iota_single_apply]
    show IntOp.andi (BitVec.ofBool (v0 (ix3 0 0 p) == v0 (ix3 0 0 q))) (BitVec.ofBool ((BitVec.ofNat 32 q.val).sle (BitVec.ofNat 32 p.val))) = _
    rw [sle_ofNat _ _ (by omega) (by omega)]
    by_cases h1 : v0 (ix3 0 0 q) = v0 (ix3 0 0 p)
    · by_cases h2 : q ≤ p
      · have h3 : q.val ≤ p.val := h2
        simp [h1, h2, h3, IntOp.andi]
      · have h3 : ¬q.val ≤ p.val := h2
        simp [h1, h2, h3, IntOp.andi]
    · have h1' : ¬v0 (ix3 0 0 p) = v0 (ix3 0 0 q) := fun h => h1 h.symm
      have : (v0 (ix3 0 0 p) == v0 (ix3 0 0 q)) = false := by simp [h1']
      rw [this]
      simp [h1, IntOp.andi]
  · rw [mulf_apply, bc_col, broadcastTo_1b_ab_apply, shapeCast_a_a1_apply]
    refine bit_mul _ _ ?_ _
    show IntOp.cmpi .eq (k0_pay3 v0 (ix1 p)) s = _
    rw [pay3_apply]
    rfl

/-- The table of ray sums at one entry. -/
theorem pay8_apply (v0 : Vec Ideal S1x1x256 .i32) (v2 : Vec Ideal S256x32 .f32) (t : Vec Ideal S4096x32 .f32)
    (r : Fin 4096) (d : Fin 32) : k0_pay8 v0 v2 t (ix2 r d) =
      t (ix2 r d) + ∑ q : Fin 256, if v0 (ix3 0 0 q) = BitVec.ofNat 32 r.val then v2 (ix2 q d) else 0 := by
  unfold k0_pay8
  dsimp only
  rw [addf_apply, shapeCast_self]
  congr 1
  refine (Ideal.matmul_plain_apply (M := 4096) (K := 256) (N := 32) none _ _ _ r d).trans ?_
  rw [constant_apply, Ideal.ofBits_zero_f32, zero_add]
  refine Finset.sum_congr rfl fun q _ => ?_
  refine bit_mul _ _ ?_ _
  show IntOp.cmpi .eq (iota .tc S4096x256 32 [0] iota_S4096x256_d0_w32 (ix2 r q)) (broadcastTo S4096x256 (k0_pay6 v0) broadcasts_S1x256_S4096x256 (ix2 r q)) = _
  rw [broadcastTo_1b_ab_apply, pay6_apply, iota_single_apply]
  show BitVec.ofBool (BitVec.ofNat 32 r.val == v0 (ix3 0 0 q)) = _
  congr 1
  rw [Bool.eq_iff_iff, beq_iff_eq, decide_eq_true_iff]
  exact eq_comm

/-- The carried row at one entry: the block's last row. -/
theorem pay1_apply {F : FTy → Type} [FloatOps F] (v : FVec F S256x32 .f32) (d : Fin 32) :
    k0_pay1 v (ix2 0 d) = v (ix2 255 d) := by
  unfold k0_pay1
  rw [shapeCast_self]
  exact extractStridedSlice_apply _ v _ _ _ fun a => by
    match a with
    | ⟨0, _⟩ => rfl
    | ⟨1, _⟩ => exact (Nat.zero_add _).symm

/-- The carried ray word: the block's last. -/
theorem last_word {F : FTy → Type} [FloatOps F] (v0 : Vec F S1x1x256 .i32) :
    extractAt ![0] (k0_pay2 (k0_pay3 v0)) inpos_S1_p0 = v0 (ix3 0 0 255) := by
  refine Eq.trans ?_ (pay3_apply v0 255)
  unfold k0_pay2 extractAt
  exact extractStridedSlice_apply _ _ _ _ _ fun a => by
    match a with
    | ⟨0, _⟩ => rfl

theorem pay4_apply (d : Fin 32) : k0_pay4 (F := Ideal) (ix2 0 d) = 0 := by
  unfold k0_pay4
  rw [shapeCast_self]
  exact Ideal.ofBits_zero_f32

theorem pay5_apply (r : Fin 4096) (d : Fin 32) : k0_pay5 (F := Ideal) (ix2 r d) = 0 := Ideal.ofBits_zero_f32

end Cert.Ray.Kernel

end
-- ==== Proof.Ray.Scan.lean ====
/-
  What the scan kernel's two result arrays hold: the table of ray sums holds each ray's sum over all samples, the array
  of running sums each sample's running sum inside its ray. By induction on the grid point, a point being one block of
  256 samples.
-/
module

public import proofs.«01_k».proof.Proof.Gen.KernelIdeal.Value
public import proofs.«01_k».proof.Proof.Ray.Sums
public import proofs.«01_k».proof.Proof.Ray.Arrays
public import proofs.«01_k».proof.Proof.Ray.Steps
public import proofs.«01_k».proof.Proof.Ray.Payloads
public import Idealize.ShloMosaic.Lib.StableHlo.Run
public import Idealize.ShloMosaic.Lib.Pipeline.Value

@[expose] public section

noncomputable section

open Idealize.ShloMosaic Idealize.ShloMosaic.TcCoe Idealize.SL.Sem Idealize.ShloMosaic.ValueIdx

namespace Cert.Ray.Kernel

open Cert.KernelIdeal Cert.KernelIdeal.Gen Cert.KernelIdeal.Value

variable (m : (ℓ : Loc nD τ sig) → Buf (Elt Ideal) ℓ) (c : Dev nD)

/-- The samples' values, as the launch finds them. -/
abbrev argX : Vec Ideal S262144x32 .f32 := m ((c : Thread nD τ).loc main_arg0)
/-- The samples' ray words. -/
abbrev argI : Vec Ideal S262144 .i32 := m ((c : Thread nD τ).loc main_arg1)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)

/-- The block of values at a point is its 256 samples' values. -/
theorem block_x (t : Fin cfg0.N) (p : Fin 256) (d : Fin 32) :
    (iblk m c 0 t : Vec Ideal S256x32 .f32) (ix2 p d) = xs (argX m c) d (256 * t.val + p.val) := by
  have hN : t.val < 1024 := lt_of_lt_of_eq t.isLt N_0
  rw [xs_of_lt _ _ (show 256 * t.val + p.val < 262144 by omega), show argX m c = V m c main_arg0 from (V_main_arg0 m c).symm]
  unfold iblk
  rw [View.read_apply]
  show V m c main_arg0 _ = V m c main_arg0 _
  congr 1
  funext a
  apply Fin.ext
  match a with
  | ⟨0, _⟩ => show win0_0.index t 0 * 256 + 1 * p.val = 256 * t.val + p.val; rw [(idx0 t).1]; omega
  | ⟨1, _⟩ => show win0_0.index t 1 * 32 + 1 * d.val = d.val; rw [(idx0 t).2]; omega

/-- The reshaped ray words, as the kernel's call finds them. -/
theorem V_words : V m c main_v0 = shapeCast S1024x1x256 (argI m c) shapeCasts_S262144_S1024x1x256 := by
  unfold V
  after_results
  rfl

/-- The block of ray words at a point is its 256 samples' words. -/
theorem block_w (t : Fin cfg0.N) (q : Fin 256) :
    (iblk m c 1 t : Vec Ideal S1x1x256 .i32) (ix3 0 0 q) = ws (argI m c) (256 * t.val + q.val) := by
  have hN : t.val < 1024 := lt_of_lt_of_eq t.isLt N_0
  rw [ws_of_lt _ (show 256 * t.val + q.val < 262144 by omega)]
  unfold iblk
  rw [View.read_apply]
  show V m c main_v0 _ = _
  rw [V_words]
  refine shapeCast_apply _ _ _ _ ?_
  rw [Shape.rowMajor_val_three, Shape.rowMajor_val_one]
  show 256 * t.val + q.val = ((win0_1.index t 0 * 1 + 1 * 0) * 1 + (win0_1.index t 1 * 1 + 1 * 0)) * 256 + (win0_1.index t 2 * 256 + 1 * q.val)
  rw [(idx1 t).1, (idx1 t).2.1, (idx1 t).2.2]
  omega

/-- What the buffers hold after point `n`. -/
def Inv (n : ℕ) (o : Vec Ideal S4096x32 .f32 × Vec Ideal S256x32 .f32 × Vec Ideal S1x32 .f32 × Vec Ideal S1 .i32) : Prop :=
  (∀ p d, o.2.1 (ix2 p d) = run (ws (argI m c)) (xs (argX m c) d) (256 * n + p.val))
  ∧ (∀ d, o.2.2.1 (ix2 0 d) = run (ws (argI m c)) (xs (argX m c) d) (256 * n + 255))
  ∧ o.2.2.2 (ix1 0) = ws (argI m c) (256 * n + 255)
  ∧ ∀ (r : Fin 4096) d, o.1 (ix2 r d) = upTo (ws (argI m c)) (xs (argX m c) d) (BitVec.ofNat 32 r.val) (256 * n + 256)

/-- The block's running sums at the first point. -/
theorem first_block (t : Fin cfg0.N) (ht : t.val = 0) (p : Fin 256) (d : Fin 32) :
    k0_pay7 (iblk m c 1 t) (iblk m c 0 t) 4294967295#32 (k0_pay4 (F := Ideal)) (ix2 p d) =
      run (ws (argI m c)) (xs (argX m c) d) (256 * t.val + p.val) := by
  rw [pay7_apply, pay4_apply, ite_self, add_zero, ht, Nat.mul_zero, Nat.zero_add, run_first _ _ 256 p.val p.isLt]
  refine Finset.sum_congr rfl fun q _ => ?_
  rw [block_w, block_w, block_x, ht, Nat.mul_zero, Nat.zero_add, Nat.zero_add]
  rfl

/-- The block's running sums at a later point. -/
theorem later_block (hw : Sorted (ws (argI m c)) 262144) (t : Fin cfg0.N) (ht : t.val ≠ 0)
    (s0 : Vec Ideal S1x32 .f32) (s1 : BitVec 32)
    (h0 : ∀ d, s0 (ix2 0 d) = run (ws (argI m c)) (xs (argX m c) d) (256 * (t.val - 1) + 255))
    (h1 : s1 = ws (argI m c) (256 * (t.val - 1) + 255)) (p : Fin 256) (d : Fin 32) :
    k0_pay7 (iblk m c 1 t) (iblk m c 0 t) s1 s0 (ix2 p d) =
      run (ws (argI m c)) (xs (argX m c) d) (256 * t.val + p.val) := by
  have hN : t.val < 1024 := lt_of_lt_of_eq t.isLt N_0
  have e : 256 * (t.val - 1) + 255 = 256 * t.val - 1 := by omega
  rw [pay7_apply, h0, h1, e, run_block hw _ (256 * t.val) 256 p.val (by omega) p.isLt (by omega), block_w]
  congr 1
  refine Finset.sum_congr rfl fun q _ => ?_
  rw [block_w, block_x]
  rfl

theorem table_block (t : Fin cfg0.N) (s : Vec Ideal S4096x32 .f32)
    (hs : ∀ (r : Fin 4096) d, s (ix2 r d) = upTo (ws (argI m c)) (xs (argX m c) d) (BitVec.ofNat 32 r.val) (256 * t.val))
    (r : Fin 4096) (d : Fin 32) : k0_pay8 (iblk m c 1 t) (iblk m c 0 t) s (ix2 r d) =
      upTo (ws (argI m c)) (xs (argX m c) d) (BitVec.ofNat 32 r.val) (256 * t.val + 256) := by
  rw [pay8_apply, hs, upTo_block]
  congr 1
  refine Finset.sum_congr rfl fun q _ => ?_
  rw [block_w, block_x]

theorem outs_inv (hw : Sorted (ws (argI m c)) 262144) : ∀ (n : ℕ) (hn : n < cfg0.N), Inv m c n (outsAt0 m c n hn)
  | 0, hn => by
    have e := outsAt0_A m c ⟨0, hn⟩ rfl
    dsimp only at e
    rw [e]
    refine ⟨fun p d => ?_, fun d => ?_, ?_, fun r d => ?_⟩
    · dsimp only
      rw [out_A3]
      exact first_block m c ⟨0, hn⟩ rfl p d
    · dsimp only
      rw [sout_A0, pay1_apply]
      exact first_block m c ⟨0, hn⟩ rfl 255 d
    · dsimp only
      rw [sout_A1, last_word]
      exact block_w m c ⟨0, hn⟩ 255
    · dsimp only
      rw [out_A2]
      exact table_block m c ⟨0, hn⟩ _ (fun r d => (pay5_apply r d).trans (upTo_zero _ _ _).symm) r d
  | n + 1, hn => by
    have hN : n + 1 < 1024 := lt_of_lt_of_eq hn N_0
    have hb : ¬(⟨n + 1, hn⟩ : Fin cfg0.N).val % 1024 = 0 := by dsimp only; omega
    have ih := outs_inv hw n (Nat.lt_of_succ_lt hn)
    have e := outsAt0_B m c ⟨n + 1, hn⟩ hb
    dsimp only [Nat.add_sub_cancel] at e
    rw [e]
    obtain ⟨-, i0, i1, i2⟩ := ih
    have blk := later_block m c hw ⟨n + 1, hn⟩ (Nat.succ_ne_zero n) _ _ i0 i1
    refine ⟨fun p d => ?_, fun d => ?_, ?_, fun r d => ?_⟩
    · dsimp only
      rw [out_B3]
      exact blk p d
    · dsimp only
      rw [sout_B0, pay1_apply]
      exact blk 255 d
    · dsimp only
      rw [sout_B1, last_word]
      exact block_w m c ⟨n + 1, hn⟩ 255
    · dsimp only
      rw [out_B2]
      exact table_block m c ⟨n + 1, hn⟩ _ (fun r d => i2 r d) r d

/-- The table of ray sums, after the run. -/
theorem table_eq (hw : Sorted (ws (argI m c)) 262144) (r : Fin 4096) (d : Fin 32) :
    G2 m c (ix2 r d) = upTo (ws (argI m c)) (xs (argX m c) d) (BitVec.ofNat 32 r.val) 262144 := by
  rw [G2_last, ← outsAt0_sweep m c 1023 (lt_of_lt_of_eq (by decide) N_0.symm)]
  exact (outs_inv m c hw 1023 _).2.2.2 r d

/-- The array of running sums, after the run. -/
theorem sums_eq (hw : Sorted (ws (argI m c)) 262144) (i : Fin 262144) (d : Fin 32) :
    G3 m c (ix2 i d) = run (ws (argI m c)) (xs (argX m c) d) i.val := by
  have hp : pt3Of (ix2 i d) = i.val / 256 := by
    show 1 * (i.val / 256 - 0) + 1 * (d.val / 32 - 0) = _
    have := d.isLt
    omega
  have hlt : i.val / 256 < cfg0.N := lt_of_lt_of_eq (show i.val / 256 < 1024 by omega) N_0.symm
  unfold G3
  rw [dif_pos (lt_of_eq_of_lt hp hlt), fold0_congr m c _ _ (i.val / 256) (by omega) hp, ← outsAt0_sweep m c _ hlt]
  have hl : loc3Of (ix2 i d) = ix2 (n0 := 256) (n1 := 32) ⟨i.val % 256, by omega⟩ d := by
    funext a; apply Fin.ext
    match a with
    | ⟨0, _⟩ => rfl
    | ⟨1, _⟩ => exact Nat.mod_eq_of_lt d.isLt
  rw [hl, (outs_inv m c hw _ hlt).1]
  congr 1
  show 256 * (i.val / 256) + i.val % 256 = i.val
  omega

end Cert.Ray.Kernel

end
-- ==== Proof.Ray.Lands.lean ====
/-
  Where the reference's two scatters land: sample `i`'s update goes to the row that its word names, and each update of a
  row of values keeps its column.
-/
module

public import proofs.«01_k».proof.Proof.Gen.ReferenceIdeal.Run
public import Idealize.ShloMosaic.Lib.Routing.Ops
public import Idealize.ShloMosaic.Lib.Routing.OpsPair

@[expose] public section

noncomputable section

open Idealize.ShloMosaic Idealize.ShloMosaic.ValueIdx Idealize.ShloMosaic.Routing

namespace Cert.Ray.Reference

open Cert.ReferenceIdeal

/-- An update of a row of values starts at the row that its word names. -/
theorem rows_start (idx : IVec S262144x1 32) (i : Fin 262144) (e : Fin 32) :
    scatter_S4096x32_S262144x1_S262144x32_1_0_0_1.start (ix2 i e) idx 0 = (idx (ix2 i (0 : Fin 1))).toInt := by
  have hm : (0 : Fin 2) ∈ scatter_S4096x32_S262144x1_S262144x32_1_0_0_1.scatterDimsToOperandDims := List.mem_singleton.2 rfl
  unfold ScatterDims.start
  rw [dif_pos hm]
  refine congrArg (fun k => (idx k).toInt) (funext fun b => Fin.ext ?_)
  match b with
  | ⟨0, _⟩ => rfl
  | ⟨1, _⟩ => rfl

theorem rows_start_one (idx : IVec S262144x1 32) (i : Fin 262144) (e : Fin 32) :
    scatter_S4096x32_S262144x1_S262144x32_1_0_0_1.start (ix2 i e) idx 1 = 0 := by
  unfold ScatterDims.start
  exact dif_neg (by decide)

theorem rows_window (i : Fin 262144) (e : Fin 32) :
    scatter_S4096x32_S262144x1_S262144x32_1_0_0_1.window (ix2 i e) 0 = 0 := rfl

theorem rows_window_one (i : Fin 262144) (e : Fin 32) :
    scatter_S4096x32_S262144x1_S262144x32_1_0_0_1.window (ix2 i e) 1 = e.val := rfl

/-- The update at sample `i`, column `e` lands at row `r`, column `d`. -/
theorem rows_land (idx : IVec S262144x1 32) (i : Fin 262144) (e : Fin 32) (r : Fin 4096) (d : Fin 32) :
    scatter_S4096x32_S262144x1_S262144x32_1_0_0_1.resultIdx? (ix2 i e) idx = some (ix2 r d)
      ↔ (idx (ix2 i (0 : Fin 1))).toInt = (r.val : Int) ∧ e = d := by
  rw [resultIdx?_eq_some]
  constructor
  · intro h
    have h0 := h 0
    have h1 := h 1
    rw [rows_start, rows_window] at h0
    rw [rows_start_one, rows_window_one] at h1
    change _ + ((0 : ℕ) : Int) = (r.val : Int) at h0
    change 0 + (e.val : Int) = (d.val : Int) at h1
    exact ⟨by omega, Fin.ext (by omega)⟩
  · rintro ⟨h, rfl⟩ a
    match a with
    | ⟨0, _⟩ =>
      refine (congrArg₂ (fun (p : Int) (q : ℕ) => p + (q : Int)) (rows_start idx i e) (rows_window i e)).trans ?_
      rw [h]
      exact Int.add_zero _
    | ⟨1, _⟩ =>
      refine (congrArg₂ (fun (p : Int) (q : ℕ) => p + (q : Int)) (rows_start_one idx i e) (rows_window_one i e)).trans ?_
      exact Int.zero_add _

/-- The update of sample `i`'s number lands at row `r`. -/
theorem firsts_land (idx : IVec S262144x1 32) (i : Fin 262144) (r : Fin 4096) :
    scatter_S4096_S262144x1_S262144_n_0_0_1.resultIdx? (ix1 i) idx = some (ix1 r)
      ↔ (idx (ix2 i (0 : Fin 1))).toInt = (r.val : Int) := by
  have hm : (0 : Fin 1) ∈ scatter_S4096_S262144x1_S262144_n_0_0_1.scatterDimsToOperandDims := List.mem_singleton.2 rfl
  have hstart : scatter_S4096_S262144x1_S262144_n_0_0_1.start (ix1 i) idx 0 = (idx (ix2 i (0 : Fin 1))).toInt := by
    unfold ScatterDims.start
    rw [dif_pos hm]
    refine congrArg (fun k => (idx k).toInt) (funext fun b => Fin.ext ?_)
    match b with
    | ⟨0, _⟩ => rfl
    | ⟨1, _⟩ => rfl
  have hwin : scatter_S4096_S262144x1_S262144_n_0_0_1.window (ix1 i) 0 = 0 := rfl
  rw [resultIdx?_eq_some]
  constructor
  · intro h
    have h0 := h 0
    rw [hstart, hwin] at h0
    change _ + ((0 : ℕ) : Int) = (r.val : Int) at h0
    omega
  · intro h a
    match a with
    | ⟨0, _⟩ =>
      refine (congrArg₂ (fun (p : Int) (q : ℕ) => p + (q : Int)) hstart hwin).trans ?_
      rw [h]
      exact Int.add_zero _

/-- A word's signed value is row `r` just where the word is that of `r`. -/
theorem toInt_eq_row (w : BitVec 32) (r : Fin 4096) : w.toInt = (r.val : Int) ↔ w = BitVec.ofNat 32 r.val := by
  have hr := r.isLt
  constructor
  · intro h
    apply BitVec.eq_of_toInt_eq
    rw [h, StableHlo.Predicate.toInt_ofNat_small _ (by omega)]
  · rintro rfl
    exact StableHlo.Predicate.toInt_ofNat_small _ (by omega)

end Cert.Ray.Reference
-- ==== Proof.Ray.Prefix.lean ====
/-
  The host's running sum down the columns of a table, as it prints (a window of the whole height padded above by one
  less), is the prefix sum of each column.
-/
module

public import Idealize.ShloMosaic.Lib.Routing.Ops
public import Idealize.ShloMosaic.Lib.Routing.OpsPair
public import Idealize.ShloMosaic.PureOps.Ideal

@[expose] public section

noncomputable section

open Idealize.ShloMosaic Idealize.ShloMosaic.ValueIdx Idealize.ShloMosaic.Routing
open Finset (range sum_range_add)

namespace Cert.Ray

variable {M : Type} [AddCommMonoid M]

theorem foldl_plus {ι : Type} (l : List ι) (g : ι → M) (v : M) : l.foldl (fun r a => r + g a) v = v + (l.map g).sum := by
  induction l generalizing v with
  | nil => simp
  | cons a l ih => rw [List.foldl_cons, ih, List.map_cons, List.sum_cons, add_assoc]

/-- Of a window of `B + 1` positions at `j ≤ B` whose first `B - j` are padding, the rest are the entries `0 … j`. -/
theorem window_prefix (f : ℕ → M) (B j : ℕ) (hj : j ≤ B) :
    (∑ w ∈ range (B + 1), if B ≤ j + w then f (j + w - B) else 0) = ∑ w ∈ range (j + 1), f w := by
  obtain ⟨d, rfl⟩ : ∃ d, B = j + d := ⟨B - j, by omega⟩
  rw [show j + d + 1 = d + (j + 1) by omega, sum_range_add, Finset.sum_eq_zero, zero_add]
  · refine Finset.sum_congr rfl fun w _ => ?_
    rw [if_pos (by omega), show j + (d + w) - (j + d) = w by omega]
  · intro w hw
    exact if_neg (by have := Finset.mem_range.1 hw; omega)

theorem numel_column (N : ℕ) : (shape2 N 1).numel = N := by
  show ∏ a : Fin 2, (![N, 1] : Fin 2 → ℕ) a = N
  rw [Fin.prod_univ_two]
  exact Nat.mul_one N

/-- The running sum down column `d`, at row `j`. -/
theorem running_sum {N B C : ℕ} (hN : B + 1 = N) (x : (shape2 N C).Idx → M) (d : Fin C) (f : ℕ → M)
    (hx : ∀ i : Fin N, x (ix2 i d) = f i.val) {u : Shape} (init : u.Idx → M) (hinit : ∀ k, init k = 0)
    (h : (shape2 N C).ReduceWindows (![N, 1] : Fin 2 → ℕ) ![1, 1] ![B, 0] ![0, 0] (shape2 N C)) (hu : 0 < u.numel) (j : Fin N) :
    Host.reduceWindow (· + ·) ![N, 1] ![1, 1] ![B, 0] ![0, 0] x init h hu (ix2 j d) = ∑ q ∈ range (j.val + 1), f q := by
  subst hN
  have hj := j.isLt
  have hd := d.isLt
  unfold Host.reduceWindow
  refine (foldl_plus _ _ _).trans ?_
  rw [hinit, zero_add, ← window_prefix f B j.val (by omega)]
  have key : ∀ n : Fin (shape2 (B + 1) 1).numel, (shape2 (B + 1) 1).rowMajor.symm n
      = ix2 (n.cast (numel_column (B + 1))) (0 : Fin 1) := fun n =>
    ((shape2 (B + 1) 1).rowMajor.symm_apply_eq).2 (Fin.ext (by
      rw [Shape.rowMajor_val_two]
      exact (Nat.mul_one n.val).symm))
  refine Eq.trans ?_ (Fin.sum_univ_eq_sum_range (fun w => if B ≤ j.val + w then f (j.val + w - B) else 0) (B + 1))
  rw [Fin.sum_univ_def]
  refine Eq.trans (congrArg List.sum (List.map_congr_left (g := fun n => if B ≤ j.val + n.val then f (j.val + n.val - B) else 0)
    fun n _ => ?_)) ?_
  · have hw : ((shape2 (B + 1) 1).rowMajor.symm n 0).val = n.val := by rw [key]; rfl
    have hw1 : ((shape2 (B + 1) 1).rowMajor.symm n 1).val = 0 := by rw [key]; rfl
    have hn : n.val < B + 1 := (n.cast (numel_column _)).isLt
    dsimp only
    split
    · next hin =>
      have h0 := hin 0
      change B ≤ j.val * 1 + ((shape2 (B + 1) 1).rowMajor.symm n 0).val
        ∧ j.val * 1 + ((shape2 (B + 1) 1).rowMajor.symm n 0).val - B < B + 1 at h0
      rw [hw] at h0
      rw [if_pos (by omega)]
      refine (congrArg x (funext fun a => Fin.ext ?_)).trans (hx ⟨j.val + n.val - B, by omega⟩)
      match a with
      | ⟨0, _⟩ =>
        show j.val * 1 + ((shape2 (B + 1) 1).rowMajor.symm n 0).val - B = j.val + n.val - B
        rw [hw, Nat.mul_one]
      | ⟨1, _⟩ =>
        show d.val * 1 + ((shape2 (B + 1) 1).rowMajor.symm n 1).val - 0 = d.val
        rw [hw1, Nat.mul_one]
        rfl
    · next hin =>
      rw [if_neg fun hle => hin fun a => by
        match a with
        | ⟨0, _⟩ =>
          show B ≤ j.val * 1 + ((shape2 (B + 1) 1).rowMajor.symm n 0).val
            ∧ j.val * 1 + ((shape2 (B + 1) 1).rowMajor.symm n 0).val - B < B + 1
          rw [hw]
          omega
        | ⟨1, _⟩ =>
          show 0 ≤ d.val * 1 + ((shape2 (B + 1) 1).rowMajor.symm n 1).val
            ∧ d.val * 1 + ((shape2 (B + 1) 1).rowMajor.symm n 1).val - 0 < C
          rw [hw1]
          omega]
  · rw [map_finRange_val _ (fun w => if B ≤ j.val + w then f (j.val + w - B) else 0),
      map_finRange_val _ (fun w => if B ≤ j.val + w then f (j.val + w - B) else 0)]
    exact congrArg (fun K => ((List.range K).map fun w => if B ≤ j.val + w then f (j.val + w - B) else 0).sum) (numel_column (B + 1))

end Cert.Ray
-- ==== Proof.Ray.Firsts.lean ====
/-
  The least number of the samples that land at one row is the first of them.
-/
module

public import Idealize.ShloMosaic.Lib.Routing.OpsSearch

@[expose] public section

noncomputable section

open Idealize.ShloMosaic Idealize.ShloMosaic.Routing

namespace Cert.Ray

theorem foldl_finRange {α : Type} (N : ℕ) (F : α → ℕ → α) (v : α) :
    (List.finRange N).foldl (fun a n => F a n.val) v = (List.range N).foldl F v := by
  rw [← List.map_coe_finRange_eq_range, List.foldl_map]

theorem min_words {a b : ℕ} (ha : a < 2 ^ 31) (hb : b < 2 ^ 31) :
    IntOp.minsi (BitVec.ofNat 32 a) (BitVec.ofNat 32 b) = BitVec.ofNat 32 (min a b) := by
  unfold IntOp.minsi
  rw [slt_ofNat32 ha hb]
  by_cases h : a < b
  · rw [if_pos (decide_eq_true h), Nat.min_eq_left (by omega)]
  · rw [if_neg (by simpa using h), Nat.min_eq_right (by omega)]

/-- From a word above them all, the least of the numbers with `P` below `N` is the first number with `P`. -/
theorem fold_min (P : ℕ → Prop) [DecidablePred P] (N top f : ℕ) (ht : top < 2 ^ 31) (hN : N ≤ top) (hf : f < N) (hP : P f)
    (hmin : ∀ j < f, ¬ P j) :
    (List.range N).foldl (fun a n => if P n then IntOp.minsi a (BitVec.ofNat 32 n) else a) (BitVec.ofNat 32 top)
      = BitVec.ofNat 32 f := by
  have key : ∀ k, k ≤ N →
      (List.range k).foldl (fun a n => if P n then IntOp.minsi a (BitVec.ofNat 32 n) else a) (BitVec.ofNat 32 top)
        = if k ≤ f then BitVec.ofNat 32 top else BitVec.ofNat 32 f := by
    intro k
    induction k with
    | zero => intro _; simp
    | succ k ih =>
      intro hk
      rw [List.range_succ, List.foldl_append, ih (by omega)]
      simp only [List.foldl_cons, List.foldl_nil]
      rcases lt_trichotomy k f with h | h | h
      · rw [if_neg (hmin k h), if_pos (by omega), if_pos (by omega)]
      · subst h
        rw [if_pos hP, if_pos le_rfl, if_neg (by omega), min_words ht (by omega), Nat.min_eq_right (by omega)]
      · rw [if_neg (by omega : ¬ k ≤ f), if_neg (by omega : ¬ k + 1 ≤ f), min_words (by omega) (by omega),
          Nat.min_eq_left (by omega), ite_self]
  rw [key N le_rfl, if_neg (by omega)]

end Cert.Ray
-- ==== Proof.Ray.RefTable.lean ====
/-
  What the reference's parts hold: the row sums, the running sum down the columns, the first sample of each row and the
  sum before it.
-/
module

public import proofs.«01_k».proof.Proof.Ray.Lands
public import proofs.«01_k».proof.Proof.Ray.Prefix
public import proofs.«01_k».proof.Proof.Ray.Firsts
public import proofs.«01_k».proof.Proof.Ray.Sums
public import proofs.«01_k».proof.Proof.Ray.Arrays
public import Idealize.ShloMosaic.Lib.Pipeline.Value
public import Idealize.ShloMosaic.PureOps.Ideal.Laws

@[expose] public section

noncomputable section

open Idealize.ShloMosaic Idealize.ShloMosaic.ValueIdx Idealize.ShloMosaic.Routing

namespace Cert.Ray.Reference

open Cert.ReferenceIdeal Cert.ReferenceIdeal.Gen

variable (X : S262144x32.Idx → EReal) (I : S262144.Idx → BitVec 32)

/-- The row numbers as a column. -/
abbrev column (J : S262144.Idx → BitVec 32) : S262144x1.Idx → BitVec 32 := broadcastInDim S262144x1 ![0] bcast_S262144_S262144x1_0 J

theorem column_apply (J : S262144.Idx → BitVec 32) (i : Fin 262144) : column J (ix2 i (0 : Fin 1)) = J (ix1 i) := by
  refine congrArg J (funext fun a => Fin.ext ?_)
  match a with
  | ⟨0, _⟩ => rfl

theorem zero_word (k : S_.Idx) : (constant (F := Ideal) S_ .f32 0x00000000#32) k = (0 : EReal) := Ideal.ofBits_zero_f32

/-- The row sums. -/
theorem table (r : Fin 4096) (d : Fin 32) :
    (Host.scatterAdd (F := Ideal) (φ := .f32) scatter_S4096x32_S262144x1_S262144x32_1_0_0_1
      (broadcastInDim S4096x32 ![] bcast_S_S4096x32 (constant S_ .f32 0x00000000#32)) (column I) X : S4096x32.Idx → EReal) (ix2 r d)
      = upTo (ws I) (xs X d) (BitVec.ofNat 32 r.val) 262144 := by
  classical
  have hz : (broadcastInDim S4096x32 ![] bcast_S_S4096x32 (constant (F := Ideal) S_ .f32 0x00000000#32)) (ix2 r d) = (0 : EReal) :=
    zero_word _
  show (_ : EReal) + _ = _
  rw [hz, zero_add]
  unfold upTo
  rw [← Fin.sum_univ_eq_sum_range (fun j => if ws I j = BitVec.ofNat 32 r.val then xs X d j else 0) 262144, ← Finset.sum_filter]
  symm
  refine Finset.sum_bij (fun (i : Fin 262144) _ => (ix2 i d : S262144x32.Idx)) ?_ ?_ ?_ ?_
  · intro i hi
    refine Finset.mem_filter.2 ⟨Finset.mem_univ _, (rows_land _ i d r d).2 ⟨?_, rfl⟩⟩
    rw [column_apply, ← ws_fin I, toInt_eq_row]
    exact (Finset.mem_filter.1 hi).2
  · intro i _ k _ e
    exact congrFun e 0
  · intro k hk
    have hk' := (Finset.mem_filter.1 hk).2
    obtain ⟨i, e, rfl⟩ : ∃ (i : Fin 262144) (e : Fin 32), k = ix2 i e := ⟨k 0, k 1, eq_ix2 k⟩
    obtain ⟨h1, rfl⟩ := (rows_land _ i e r d).1 hk'
    rw [column_apply, ← ws_fin I, toInt_eq_row] at h1
    exact ⟨i, Finset.mem_filter.2 ⟨Finset.mem_univ _, h1⟩, rfl⟩
  · intro i _
    exact xs_fin X d i

/-- The running sum down the columns. -/
abbrev running : S262144x32.Idx → EReal :=
  Host.reduceWindowAdd (F := Ideal) (φ := .f32) ![262144, 1] ![1, 1] ![262143, 0] ![0, 0] X
    (broadcastInDim S_ ![] bcast_S_S_ (constant S_ .f32 0x00000000#32))
    reduceWindows_S262144x32_S262144x32_w262144s1p262143_0_w1s1p0_0 h_S_

theorem running_apply (i : Fin 262144) (d : Fin 32) : running X (ix2 i d) = ∑ q ∈ Finset.range (i.val + 1), xs X d q := by
  unfold running Host.reduceWindowAdd
  rw [Ideal.hostReduceWindowAdd_def]
  unfold Ideal.hostReduceWindowAdd
  exact running_sum (by norm_num) X d (xs X d) (fun k => (xs_fin X d k).symm) _ (fun _ => zero_word _) _ _ i

/-- The first sample of each row, as the clipped word the reference reads. -/
abbrev firsts : S4096.Idx → BitVec 32 :=
  minsi (broadcastInDim S4096 ![] bcast_S_S4096 (id (constantI S_ 32 262143#32)))
    (maxsi (broadcastInDim S4096 ![] bcast_S_S4096 (id (constantI S_ 32 0#32)))
      (Host.scatter scatter_S4096_S262144x1_S262144_n_0_0_1 IntOp.minsi
        (broadcastInDim S4096 ![] bcast_S_S4096 (constantI S_ 32 2147483647#32)) (column I) (iotaInDim S262144 32 0)))

theorem firsts_apply (r : Fin 4096) (f : ℕ) (hf : f < 262144) (e : ws I f = BitVec.ofNat 32 r.val)
    (hmin : ∀ j < f, ws I j ≠ BitVec.ofNat 32 r.val) : firsts I (ix1 r) = BitVec.ofNat 32 f := by
  have hs : Host.scatter scatter_S4096_S262144x1_S262144_n_0_0_1 IntOp.minsi
        (broadcastInDim S4096 ![] bcast_S_S4096 (constantI S_ 32 2147483647#32)) (column I) (iotaInDim S262144 32 0) (ix1 r)
      = BitVec.ofNat 32 f := by
    rw [scatter_at]
    refine Eq.trans (List.foldl_ext _ (fun a (n : Fin S262144.numel) => if ws I n.val = BitVec.ofNat 32 r.val
      then IntOp.minsi a (BitVec.ofNat 32 n.val) else a) _ fun a n _ => ?_) ?_
    · rw [symm1]
      refine if_congr ?_ rfl rfl
      rw [firsts_land, column_apply, toInt_eq_row, ← ws_fin I]
      rfl
    · refine (foldl_finRange _ (fun a n => if ws I n = BitVec.ofNat 32 r.val then IntOp.minsi a (BitVec.ofNat 32 n) else a) _).trans ?_
      rw [show S262144.numel = 262144 from numel1 262144]
      exact fold_min (fun n => ws I n = BitVec.ofNat 32 r.val) 262144 2147483647 f (by norm_num) (by norm_num) hf e hmin
  show IntOp.minsi (BitVec.ofNat 32 262143) (IntOp.maxsi (BitVec.ofNat 32 0) _) = _
  rw [hs, clip_word (by omega) (by norm_num) (by norm_num)]
  rw [show min (max f 0) 262143 = f by omega]

/-- The sums before each sample: a row of zeros above the running sum without its last row. -/
abbrev before : S262144x32.Idx → EReal :=
  concatenate S262144x32 0 [⟨S1x32, (broadcastInDim S1x32 ![] bcast_S_S1x32 (constant (F := Ideal) S_ .f32 0x00000000#32))⟩,
    ⟨S262143x32, (extractStridedSlice S262143x32 ![0, 0] (running X) slices_S262144x32_S262143x32_0_0)⟩]
    concatenates_S1x32_S262143x32_S262144x32_d0

theorem before_apply (i : Fin 262144) (d : Fin 32) : before X (ix2 i d) = ∑ q ∈ Finset.range i.val, xs X d q := by
  have hi := i.isLt
  by_cases h : i.val = 0
  · refine (concatenate_pair_apply_left (t := S262144x32) (s₁ := S1x32) (s₂ := S262143x32) 0 _ _ _ _ rfl (ix2 (0 : Fin 1) d) fun b => ?_).trans ?_
    · match b with
      | ⟨0, _⟩ => exact h.symm
      | ⟨1, _⟩ => rfl
    · rw [h, Finset.sum_range_zero]
      exact zero_word _
  · refine (concatenate_pair_apply_right (t := S262144x32) (s₁ := S1x32) (s₂ := S262143x32) 0 _ _ _ _ rfl rfl (ix2 (⟨i.val - 1, by omega⟩ : Fin 262143) d)
      (fun b hb => ?_) ?_).trans ?_
    · match b with
      | ⟨0, _⟩ => exact absurd rfl hb
      | ⟨1, _⟩ => rfl
    · show i.val - 1 + 1 = i.val
      omega
    · refine Eq.trans (congrArg (running X) (funext fun a => Fin.ext ?_)) ((running_apply X ⟨i.val - 1, by omega⟩ d).trans ?_)
      · match a with
        | ⟨0, _⟩ => exact Nat.zero_add _
        | ⟨1, _⟩ => exact Nat.zero_add _
      · rw [show i.val - 1 + 1 = i.val by omega]

end Cert.Ray.Reference
-- ==== Proof.Ray.RefSums.lean ====
/-
  The reference's running sums restarted at each ray: the running sum down the column less the sum before the ray's first
  sample is, over finite values and ordered rays, the sum of the ray's samples so far.
-/
module

public import proofs.«01_k».proof.Proof.Ray.RefTable

@[expose] public section

noncomputable section

open Idealize.ShloMosaic Idealize.ShloMosaic.ValueIdx Idealize.ShloMosaic.Routing

namespace Cert.Ray.Reference

open Cert.ReferenceIdeal Cert.ReferenceIdeal.Gen

variable (X : S262144x32.Idx → EReal) (I : S262144.Idx → BitVec 32)

/-- The first samples' words as the row read takes them: a negative word wrapped. -/
abbrev firstsWrapped : S4096.Idx → BitVec 32 :=
  select (cmpi .slt (firsts I) (broadcastInDim S4096 ![] bcast_S_S4096 (constantI S_ 32 0#32)))
    (addi (firsts I) (broadcastInDim S4096 ![] bcast_S_S4096 (constantI S_ 32 262144#32))) (firsts I)

/-- The ray words as the row read takes them. -/
abbrev idsWrapped : S262144.Idx → BitVec 32 :=
  select (cmpi .slt I (broadcastInDim S262144 ![] bcast_S_S262144 (constantI S_ 32 0#32)))
    (addi I (broadcastInDim S262144 ![] bcast_S_S262144 (constantI S_ 32 4096#32))) I

/-- The sum before the first sample of each row. -/
abbrev starts : S4096x32.Idx → EReal :=
  Host.gather gather_S262144x32_S4096x1_S4096x32_1_0_n_n_0_1_132 (before X)
    (broadcastInDim S4096x1 ![0] bcast_S4096_S4096x1_0 (firstsWrapped I))

/-- The reference's second result. -/
abbrev sums : S262144x32.Idx → EReal :=
  subf (F := Ideal) (φ := .f32) (running X) (Host.gather gather_S4096x32_S262144x1_S262144x32_1_0_n_n_0_1_132 (starts X I) (column (idsWrapped I)))

theorem starts_apply (r : Fin 4096) (d : Fin 32) (f : ℕ) (hf : f < 262144) (e : ws I f = BitVec.ofNat 32 r.val)
    (hmin : ∀ j < f, ws I j ≠ BitVec.ofNat 32 r.val) : starts X I (ix2 r d) = ∑ q ∈ Finset.range f, xs X d q := by
  have h1 := firsts_apply I r f hf e hmin
  have h2 : firstsWrapped I (ix1 r) = BitVec.ofNat 32 f := by
    refine (wrap_of_lt (firsts I (ix1 r)) _ ?_).trans h1
    rw [h1, BitVec.toNat_ofNat, Nat.mod_eq_of_lt (by omega)]
    omega
  refine (gather_row gather_S262144x32_S4096x1_S4096x32_1_0_n_n_0_1_132 rfl rfl rfl rfl rfl (before X) _ r d ⟨f, hf⟩ ?_
    (by norm_num)).trans (before_apply X ⟨f, hf⟩ d)
  refine Eq.trans (congrArg (firstsWrapped I) (funext fun a => Fin.ext ?_)) h2
  match a with
  | ⟨0, _⟩ => rfl

/-- A sum of finite values is finite. -/
theorem sum_finite (x : ℕ → EReal) (n : ℕ) (h : ∀ j < n, x j ≠ ⊤ ∧ x j ≠ ⊥) :
    ∃ v : ℝ, ∑ j ∈ Finset.range n, x j = (v : EReal) := by
  induction n with
  | zero => exact ⟨0, by simp⟩
  | succ n ih =>
    obtain ⟨v, hv⟩ := ih fun j hj => h j (by omega)
    obtain ⟨h1, h2⟩ := h n (by omega)
    refine ⟨v + (x n).toReal, ?_⟩
    rw [Finset.sum_range_succ, hv, EReal.coe_add, EReal.coe_toReal h1 h2]

theorem add_sub_first (v : ℝ) (b : EReal) : ((v : EReal) + b) - (v : EReal) = b := by
  rw [sub_eq_add_neg, add_comm (v : EReal) b, add_assoc, ← EReal.coe_neg, ← EReal.coe_add, add_neg_cancel, EReal.coe_zero, add_zero]

theorem word_eq (w : BitVec 32) : w = BitVec.ofNat 32 w.toNat :=
  BitVec.eq_of_toNat_eq (by rw [BitVec.toNat_ofNat, Nat.mod_eq_of_lt w.isLt])

theorem idsWrapped_apply (i : Fin 262144) (h : (I (ix1 i)).toNat < 4096) : idsWrapped I (ix1 i) = I (ix1 i) :=
  wrap_of_lt (I (ix1 i)) _ (by omega)

/-- The row that sample `i` reads is that of its word. -/
theorem read_apply (Y : S4096x32.Idx → EReal) (i : Fin 262144) (d : Fin 32) (r : Fin 4096)
    (h : I (ix1 i) = BitVec.ofNat 32 r.val) :
    Host.gather gather_S4096x32_S262144x1_S262144x32_1_0_n_n_0_1_132 Y (column (idsWrapped I)) (ix2 i d) = Y (ix2 r d) := by
  have hr := r.isLt
  refine gather_row gather_S4096x32_S262144x1_S262144x32_1_0_n_n_0_1_132 rfl rfl rfl rfl rfl Y _ i d r ?_ (by norm_num)
  rw [column_apply, idsWrapped_apply, h]
  rw [h, BitVec.toNat_ofNat, Nat.mod_eq_of_lt (by omega)]
  exact hr

theorem sub_apply {s : Shape} (A B : s.Idx → EReal) (k : s.Idx) : subf (F := Ideal) (φ := .f32) A B k = A k - B k := rfl

/-- The reference's second result, over ordered rays below 4096 and finite values. -/
theorem sums_apply (hw : Sorted (ws I) 262144) (hr : ∀ j < 262144, (ws I j).toNat < 4096)
    (hx : ∀ (d : Fin 32) j, j < 262144 → xs X d j ≠ ⊤ ∧ xs X d j ≠ ⊥) (i : Fin 262144) (d : Fin 32) :
    sums X I (ix2 i d) = run (ws I) (xs X d) i.val := by
  obtain ⟨f, hfi, e, hmin⟩ := exists_first (ws I) i.val
  obtain ⟨r, hword⟩ : ∃ r : Fin 4096, ws I i.val = BitVec.ofNat 32 r.val := ⟨⟨_, hr i.val i.isLt⟩, word_eq _⟩
  have h2 := (read_apply I (starts X I) i d r ((ws_fin I i).symm.trans hword)).trans
    (starts_apply X I r d f (lt_of_le_of_lt hfi i.isLt) (e.trans hword) fun j hj c => hmin j hj (c.trans hword.symm))
  obtain ⟨v, hv⟩ := sum_finite (xs X d) f fun j hj => hx d j (lt_trans hj (lt_of_le_of_lt hfi i.isLt))
  refine (sub_apply _ _ _).trans ?_
  rw [running_apply, h2, prefix_split hw (xs X d) f i.val hfi i.isLt e hmin, hv, add_sub_first]

end Cert.Ray.Reference
-- ==== Proof.Ray.Order.lean ====
/-
  The precondition unpacked: the ray words do not decrease and are below 4096, and every value is finite.
-/
module

public import proofs.«01_k».proof.Proof.Gen.Pre_rays_in_order
public import proofs.«01_k».proof.Proof.Ray.Sums
public import proofs.«01_k».proof.Proof.Ray.Arrays
public import Idealize.ShloMosaic.Lib.Routing.Ops
public import Idealize.ShloMosaic.PureOps.Ideal.Laws

@[expose] public section

noncomputable section

open Idealize.ShloMosaic Idealize.ShloMosaic.ValueIdx

namespace Cert.Ray.Order

open Cert.Pre_rays_in_order Cert.Pre_rays_in_order.Gen

variable (X : S262144x32.Idx → EReal) (I : S262144.Idx → BitVec 32)

theorem and_bits (a b : BitVec 1) : IntOp.andi a b = 1#1 ↔ a = 1#1 ∧ b = 1#1 := by revert a b; decide

theorem bit_of (p : Prop) [Decidable p] (h : BitVec.ofBool (decide p) = 1#1) : p := by
  by_contra c
  rw [decide_eq_false c] at h
  exact absurd h (by decide)

theorem infinity : Ideal.ofBits .f32 0x7F800000#32 = ⊤ := by simp [Ideal.ofBits, Ideal.ieee]

theorem word_range (w : BitVec 32) (h0 : IntOp.cmpi .sge w 0#32 = 1#1) (h1 : IntOp.cmpi .slt w 4096#32 = 1#1) : w.toNat < 4096 := by
  have a : (0#32).toInt ≤ w.toInt := bit_of _ h0
  have b : w.toInt < (4096#32).toInt := bit_of _ h1
  have c : (0#32 : BitVec 32).toInt = 0 := by decide
  have d : (4096#32 : BitVec 32).toInt = 4096 := by decide
  rw [c] at a
  rw [d] at b
  rw [BitVec.toInt_eq_toNat_cond] at a b
  have := w.isLt
  split at a <;> omega

theorem word_le (v w : BitVec 32) (hv : v.toNat < 4096) (hw : w.toNat < 4096) (h : IntOp.cmpi .sle v w = 1#1) : v.toNat ≤ w.toNat := by
  have a : v.toInt ≤ w.toInt := bit_of _ h
  rw [BitVec.toInt_eq_toNat_cond, BitVec.toInt_eq_toNat_cond, if_pos (by omega), if_pos (by omega)] at a
  omega

theorem in_range (h : (fn (F := Ideal) X I).1 = fun _ => 1#1) (j : ℕ) (hj : j < 262144) : (ws I j).toNat < 4096 := by
  have h1 := congrFun h (ix1 (⟨j, hj⟩ : Fin 262144))
  obtain ⟨a, b⟩ := (and_bits _ _).1 h1
  rw [ws_of_lt I hj]
  exact word_range _ a b

theorem in_order (h : (fn (F := Ideal) X I).1 = fun _ => 1#1) (h' : (fn (F := Ideal) X I).2.1 = fun _ => 1#1) :
    Sorted (ws I) 262144 := by
  refine sorted_of_step fun i hi => ?_
  have h1 := congrFun h' (ix1 (⟨i, by omega⟩ : Fin 262143))
  refine word_le _ _ (in_range X I h i (by omega)) (in_range X I h (i + 1) hi) ?_
  rw [ws_of_lt I hi, ws_of_lt I (show i < 262144 by omega)]
  refine Eq.trans (congrArg₂ (fun v w : BitVec 32 => IntOp.cmpi .sle v w) (congrArg I (funext fun a => Fin.ext ?_))
    (congrArg I (funext fun a => Fin.ext ?_))) h1
  · match a with
    | ⟨0, _⟩ => exact (Nat.zero_add i).symm
  · match a with
    | ⟨0, _⟩ => exact Nat.add_comm i 1

theorem finite (h : (fn (F := Ideal) X I).2.2 = fun _ => 1#1) (d : Fin 32) (j : ℕ) (hj : j < 262144) :
    xs X d j ≠ ⊤ ∧ xs X d j ≠ ⊥ := by
  have h1 := congrFun h (ix2 (⟨j, hj⟩ : Fin 262144) d)
  rw [xs_of_lt X d hj]
  have h2 : max (X (ix2 ⟨j, hj⟩ d)) (-X (ix2 ⟨j, hj⟩ d)) < Ideal.ofBits .f32 0x7F800000#32 := bit_of _ h1
  rw [infinity] at h2
  obtain ⟨h3, h4⟩ := max_lt_iff.1 h2
  refine ⟨ne_of_lt h3, fun e => ?_⟩
  rw [e, EReal.neg_bot] at h4
  exact lt_irrefl _ h4

end Cert.Ray.Order
-- ==== Proof.lean ====
/-
  The whole claim for the ray sums. The kernel's table and its running sums are read off its run (`Cert.Ray.Kernel`), the
  reference's off its own (`Cert.Ray.Reference`); over rays in order, in range and over finite values both are the sums of
  one ray's samples, so the two programs end with equal results.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Ray.Scan
public import proofs.«01_k».proof.Proof.Ray.RefSums
public import proofs.«01_k».proof.Proof.Ray.Order
public import Idealize.ShloMosaic.Adequacy
public import Idealize.ShloMosaic.Init
public import Idealize.ShloMosaic.Lib.Quiescent

@[expose] public section

noncomputable section

namespace Cert.Proof

open Idealize.ShloMosaic Idealize.ShloMosaic.ValueIdx Idealize.SL.Sem

theorem quiescent_ReferenceIdeal : quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The reference's two results are the kernel's, one argument pair for both. -/
theorem results_eq (m : (ℓ : Loc Cert.KernelIdeal.nD Cert.KernelIdeal.τ Cert.KernelIdeal.sig) → Buf (Elt Ideal) ℓ)
    (hpre : Pre_KernelIdeal_rays_in_order m) (c : Dev Cert.KernelIdeal.nD) :
    (Host.scatterAdd (F := Ideal) (φ := .f32) Cert.ReferenceIdeal.scatter_S4096x32_S262144x1_S262144x32_1_0_0_1
        (broadcastInDim Cert.ReferenceIdeal.S4096x32 ![] Cert.ReferenceIdeal.Gen.bcast_S_S4096x32 (constant Cert.ReferenceIdeal.S_ .f32 0x00000000#32))
        (Ray.Reference.column (Ray.Kernel.argI m c)) (Ray.Kernel.argX m c) = Cert.KernelIdeal.Value.G2 m c)
      ∧ Ray.Reference.sums (Ray.Kernel.argX m c) (Ray.Kernel.argI m c) = Cert.KernelIdeal.Value.G3 m c := by
  obtain ⟨h1, h2, h3⟩ := hpre c
  have hw := Ray.Order.in_order (Ray.Kernel.argX m c) (Ray.Kernel.argI m c) h1 h2
  refine ⟨funext fun k => ?_, funext fun k => ?_⟩
  · obtain ⟨r, d, rfl⟩ : ∃ (r : Fin 4096) (d : Fin 32), k = ix2 r d := ⟨k 0, k 1, eq_ix2 k⟩
    exact (Ray.Reference.table _ _ r d).trans (Ray.Kernel.table_eq m c hw r d).symm
  · obtain ⟨i, d, rfl⟩ : ∃ (i : Fin 262144) (d : Fin 32), k = ix2 i d := ⟨k 0, k 1, eq_ix2 k⟩
    exact (Ray.Reference.sums_apply _ _ hw (Ray.Order.in_range _ _ h1) (Ray.Order.finite _ _ h3) i d).trans
      (Ray.Kernel.sums_eq m c hw i d).symm

theorem algebraic_KernelIdeal_ReferenceIdeal : algebraic_KernelIdeal_ReferenceIdeal_pre_rays_in_order := by
  intro m ρ m' ρ' hpre hagree
  refine ⟨_, _, Cert.KernelIdeal.Value.run (F := Ideal) m ρ, ?_⟩
  refine (θ_run Cert.ReferenceIdeal.defs _ _).mono (fun _ h c => ⟨?_, ?_, (h c).2.2⟩) (Cert.ReferenceIdeal.Value.run (F := Ideal) m' ρ')
  · rw [(h c).1, (hagree c).1, (hagree c).2]
    exact (results_eq m hpre c).1
  · rw [(h c).2.1, (hagree c).1, (hagree c).2]
    exact (results_eq m hpre c).2

theorem claim : Cert.Claim := ⟨Cert.Kernel.Gen.facts, Cert.KernelIdeal.Gen.facts, Cert.ReferenceIdeal.Gen.facts,
  Cert.Pre_rays_in_order.Gen.facts, fun m ρ _ => Cert.Kernel.Gen.frame m ρ, fun m ρ _ => Cert.KernelIdeal.Gen.frame m ρ,
  fun m ρ _ => Cert.KernelIdeal.Gen.frame m ρ, quiescent_ReferenceIdeal, fun m ρ _ => quiescent_ReferenceIdeal m ρ trivial,
  (trivial : preserves_Kernel_KernelIdeal), algebraic_KernelIdeal_ReferenceIdeal⟩

end Cert.Proof

end
